-- ==== Defs.lean ====
def Pre_Kernel [hPre_in_cache : Cert.Pre_in_cache.Facts] (m : (ℓ : Loc Cert.Kernel.nD Cert.Kernel.τ Cert.Kernel.sig) → Buf (Elt Bits) ℓ) : Prop :=
  ∀ c : Dev Cert.Kernel.nD,
    (Cert.Pre_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_cache : Cert.Pre_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_cache [hPre_in_cache : Cert.Pre_in_cache.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_cache.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_cache : Cert.Pre_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_cache : Cert.Pre_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_cache [hReferenceIdeal : Cert.ReferenceIdeal.Facts] [hPre_in_cache : Cert.Pre_in_cache.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_cache m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_cache : Cert.Pre_in_cache.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_cache : Cert.Pre_in_cache.Facts),
    quiescent_Kernel (hKernel := hKernel) (hPre_in_cache := hPre_in_cache)
    ∧ quiescent_KernelIdeal (hKernelIdeal := hKernelIdeal) (hPre_in_cache := hPre_in_cache)
    ∧ quiescent_ReferenceIdeal (hReferenceIdeal := hReferenceIdeal)
    ∧ quiescent_ReferenceIdeal_pre_in_cache (hReferenceIdeal := hReferenceIdeal) (hPre_in_cache := hPre_in_cache)
    ∧ preserves_Kernel_KernelIdeal
    ∧ algebraic_KernelIdeal_ReferenceIdeal (hKernelIdeal := hKernelIdeal) (hReferenceIdeal := hReferenceIdeal) (hPre_in_cache := hPre_in_cache)
-- ==== Pre_in_cache.lean ====
abbrev S16 : Shape := ⟨1, ![16]⟩
abbrev S8x8x16x128 : Shape := ⟨4, ![8, 8, 16, 128]⟩
abbrev S8x8x4096x128 : Shape := ⟨4, ![8, 8, 4096, 128]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16 32) (main_arg1 : FVec F S8x8x16x128 .f32) (main_arg2 : FVec F S8x8x16x128 .f32) (main_arg3 : FVec F S8x8x4096x128 .f32) (main_arg4 : FVec F S8x8x4096x128 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 4096#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16 : Shape := ⟨1, ![16]⟩
abbrev S8x8x16x128 : Shape := ⟨4, ![8, 8, 16, 128]⟩
abbrev S8x8x4096x128 : Shape := ⟨4, ![8, 8, 4096, 128]⟩
abbrev S64x4096x128 : Shape := ⟨3, ![64, 4096, 128]⟩
abbrev S64x16x128 : Shape := ⟨3, ![64, 16, 128]⟩
abbrev S1x4096x128 : Shape := ⟨3, ![1, 4096, 128]⟩
abbrev S1x16x128 : Shape := ⟨3, ![1, 16, 128]⟩
abbrev S1 : Shape := ⟨1, ![1]⟩
abbrev S1x1x128 : Shape := ⟨3, ![1, 1, 128]⟩
abbrev S1x128 : Shape := ⟨2, ![1, 128]⟩

abbrev nBuf : Space → Nat
  | .hbm => 13
  | .vmem => 12
  | .smem => 1
  | _ => 0

abbrev bufTy : (tb : Table) → Fin (tcTables nBuf tb) → BufTy
  | .hbm, ⟨0, _⟩ => ⟨S16, .i32⟩
  | .hbm, ⟨1, _⟩ => ⟨S8x8x16x128, .f32⟩
  | .hbm, ⟨2, _⟩ => ⟨S8x8x16x128, .f32⟩
  | .hbm, ⟨3, _⟩ => ⟨S8x8x4096x128, .f32⟩
  | .hbm, ⟨4, _⟩ => ⟨S8x8x4096x128, .f32⟩
  | .hbm, ⟨5, _⟩ => ⟨S64x4096x128, .f32⟩
  | .hbm, ⟨6, _⟩ => ⟨S64x4096x128, .f32⟩
  | .hbm, ⟨7, _⟩ => ⟨S64x16x128, .f32⟩
  | .hbm, ⟨8, _⟩ => ⟨S64x16x128, .f32⟩
  | .hbm, ⟨9, _⟩ => ⟨S64x4096x128, .f32⟩
  | .hbm, ⟨10, _⟩ => ⟨S64x4096x128, .f32⟩
  | .hbm, ⟨11, _⟩ => ⟨S8x8x4096x128, .f32⟩
  | .hbm, ⟨12, _⟩ => ⟨S8x8x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .smem, ⟨0, _⟩ => ⟨S16, .i32⟩
  | _, _ => ⟨S16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def k0_off1 (v6 : BitVec 32) : Fin 3 → Nat :=
  let c0_15 : Index := 0#32
  let v9 : Index := Scalar.indexCast v6
  let c0_16 : Index := 0#32
  ![0, v9.toNat, 0]

def k0_chk1 (v6 : BitVec 32) : Prop :=
  (∀ a, (k0_off1 v6) a + S1x1x128.size a ≤ S1x4096x128.size a)
theorem k0_off1_inb : ∀ (v6 : BitVec 32) (k0_hw1 : k0_chk1 v6), ∀ a, (k0_off1 v6) a + S1x1x128.size a ≤ S1x4096x128.size a := fun v6 k0_hw1 => k0_hw1

def k0_off2 (v19 : BitVec 32) : Fin 3 → Nat :=
  let c0_25 : Index := 0#32
  let v22 : Index := Scalar.indexCast v19
  let c0_26 : Index := 0#32
  ![0, v22.toNat, 0]

def k0_chk2 (v19 : BitVec 32) : Prop :=
  (∀ a, (k0_off2 v19) a + S1x1x128.size a ≤ S1x4096x128.size a)
theorem k0_off2_inb : ∀ (v19 : BitVec 32) (k0_hw2 : k0_chk2 v19), ∀ a, (k0_off2 v19) a + S1x1x128.size a ≤ S1x4096x128.size a := fun v19 k0_hw2 => k0_hw2

def k0_off3 (v32 : BitVec 32) : Fin 3 → Nat :=
  let c0_35 : Index := 0#32
  let v35 : Index := Scalar.indexCast v32
  let c0_36 : Index := 0#32
  ![0, v35.toNat, 0]

def k0_chk3 (v32 : BitVec 32) : Prop :=
  (∀ a, (k0_off3 v32) a + S1x1x128.size a ≤ S1x4096x128.size a)
theorem k0_off3_inb : ∀ (v32 : BitVec 32) (k0_hw3 : k0_chk3 v32), ∀ a, (k0_off3 v32) a + S1x1x128.size a ≤ S1x4096x128.size a := fun v32 k0_hw3 => k0_hw3

def k0_off4 (v45 : BitVec 32) : Fin 3 → Nat :=
  let c0_45 : Index := 0#32
  let v48 : Index := Scalar.indexCast v45
  let c0_46 : Index := 0#32
  ![0, v48.toNat, 0]

def k0_chk4 (v45 : BitVec 32) : Prop :=
  (∀ a, (k0_off4 v45) a + S1x1x128.size a ≤ S1x4096x128.size a)
theorem k0_off4_inb : ∀ (v45 : BitVec 32) (k0_hw4 : k0_chk4 v45), ∀ a, (k0_off4 v45) a + S1x1x128.size a ≤ S1x4096x128.size a := fun v45 k0_hw4 => k0_hw4

def k0_off5 (v58 : BitVec 32) : Fin 3 → Nat :=
  let c0_55 : Index := 0#32
  let v61 : Index := Scalar.indexCast v58
  let c0_56 : Index := 0#32
  ![0, v61.toNat, 0]

def k0_chk5 (v58 : BitVec 32) : Prop :=
  (∀ a, (k0_off5 v58) a + S1x1x128.size a ≤ S1x4096x128.size a)
theorem k0_off5_inb : ∀ (v58 : BitVec 32) (k0_hw5 : k0_chk5 v58), ∀ a, (k0_off5 v58) a + S1x1x128.size a ≤ S1x4096x128.size a := fun v58 k0_hw5 => k0_hw5

def k0_off6 (v71 : BitVec 32) : Fin 3 → Nat :=
  let c0_65 : Index := 0#32
  let v74 : Index := Scalar.indexCast v71
  let c0_66 : Index := 0#32
  ![0, v74.toNat, 0]

def k0_chk6 (v71 : BitVec 32) : Prop :=
  (∀ a, (k0_off6 v71) a + S1x1x128.size a ≤ S1x4096x128.size a)
theorem k0_off6_inb : ∀ (v71 : BitVec 32) (k0_hw6 : k0_chk6 v71), ∀ a, (k0_off6 v71) a + S1x1x128.size a ≤ S1x4096x128.size a := fun v71 k0_hw6 => k0_hw6

def k0_off7 (v84 : BitVec 32) : Fin 3 → Nat :=
  let c0_75 : Index := 0#32
  let v87 : Index := Scalar.indexCast v84
  let c0_76 : Index := 0#32
  ![0, v87.toNat, 0]

def k0_chk7 (v84 : BitVec 32) : Prop :=
  (∀ a, (k0_off7 v84) a + S1x1x128.size a ≤ S1x4096x128.size a)
theorem k0_off7_inb : ∀ (v84 : BitVec 32) (k0_hw7 : k0_chk7 v84), ∀ a, (k0_off7 v84) a + S1x1x128.size a ≤ S1x4096x128.size a := fun v84 k0_hw7 => k0_hw7

def k0_off8 (v97 : BitVec 32) : Fin 3 → Nat :=
  let c0_85 : Index := 0#32
  let v100 : Index := Scalar.indexCast v97
  let c0_86 : Index := 0#32
  ![0, v100.toNat, 0]

def k0_chk8 (v97 : BitVec 32) : Prop :=
  (∀ a, (k0_off8 v97) a + S1x1x128.size a ≤ S1x4096x128.size a)
theorem k0_off8_inb : ∀ (v97 : BitVec 32) (k0_hw8 : k0_chk8 v97), ∀ a, (k0_off8 v97) a + S1x1x128.size a ≤ S1x4096x128.size a := fun v97 k0_hw8 => k0_hw8

def k0_off9 (v110 : BitVec 32) : Fin 3 → Nat :=
  let c0_95 : Index := 0#32
  let v113 : Index := Scalar.indexCast v110
  let c0_96 : Index := 0#32
  ![0, v113.toNat, 0]

def k0_chk9 (v110 : BitVec 32) : Prop :=
  (∀ a, (k0_off9 v110) a + S1x1x128.size a ≤ S1x4096x128.size a)
theorem k0_off9_inb : ∀ (v110 : BitVec 32) (k0_hw9 : k0_chk9 v110), ∀ a, (k0_off9 v110) a + S1x1x128.size a ≤ S1x4096x128.size a := fun v110 k0_hw9 => k0_hw9

def k0_off10 (v123 : BitVec 32) : Fin 3 → Nat :=
  let c0_105 : Index := 0#32
  let v126 : Index := Scalar.indexCast v123
  let c0_106 : Index := 0#32
  ![0, v126.toNat, 0]

def k0_chk10 (v123 : BitVec 32) : Prop :=
  (∀ a, (k0_off10 v123) a + S1x1x128.size a ≤ S1x4096x128.size a)
theorem k0_off10_inb : ∀ (v123 : BitVec 32) (k0_hw10 : k0_chk10 v123), ∀ a, (k0_off10 v123) a + S1x1x128.size a ≤ S1x4096x128.size a := fun v123 k0_hw10 => k0_hw10

def k0_off11 (v136 : BitVec 32) : Fin 3 → Nat :=
  let c0_115 : Index := 0#32
  let v139 : Index := Scalar.indexCast v136
  let c0_116 : Index := 0#32
  ![0, v139.toNat, 0]

def k0_chk11 (v136 : BitVec 32) : Prop :=
  (∀ a, (k0_off11 v136) a + S1x1x128.size a ≤ S1x4096x128.size a)
theorem k0_off11_inb : ∀ (v136 : BitVec 32) (k0_hw11 : k0_chk11 v136), ∀ a, (k0_off11 v136) a + S1x1x128.size a ≤ S1x4096x128.size a := fun v136 k0_hw11 => k0_hw11

def k0_off12 (v149 : BitVec 32) : Fin 3 → Nat :=
  let c0_125 : Index := 0#32
  let v152 : Index := Scalar.indexCast v149
  let c0_126 : Index := 0#32
  ![0, v152.toNat, 0]

def k0_chk12 (v149 : BitVec 32) : Prop :=
  (∀ a, (k0_off12 v149) a + S1x1x128.size a ≤ S1x4096x128.size a)
theorem k0_off12_inb : ∀ (v149 : BitVec 32) (k0_hw12 : k0_chk12 v149), ∀ a, (k0_off12 v149) a + S1x1x128.size a ≤ S1x4096x128.size a := fun v149 k0_hw12 => k0_hw12

def k0_off13 (v162 : BitVec 32) : Fin 3 → Nat :=
  let c0_135 : Index := 0#32
  let v165 : Index := Scalar.indexCast v162
  let c0_136 : Index := 0#32
  ![0, v165.toNat, 0]

def k0_chk13 (v162 : BitVec 32) : Prop :=
  (∀ a, (k0_off13 v162) a + S1x1x128.size a ≤ S1x4096x128.size a)
theorem k0_off13_inb : ∀ (v162 : BitVec 32) (k0_hw13 : k0_chk13 v162), ∀ a, (k0_off13 v162) a + S1x1x128.size a ≤ S1x4096x128.size a := fun v162 k0_hw13 => k0_hw13

def k0_off14 (v175 : BitVec 32) : Fin 3 → Nat :=
  let c0_145 : Index := 0#32
  let v178 : Index := Scalar.indexCast v175
  let c0_146 : Index := 0#32
  ![0, v178.toNat, 0]

def k0_chk14 (v175 : BitVec 32) : Prop :=
  (∀ a, (k0_off14 v175) a + S1x1x128.size a ≤ S1x4096x128.size a)
theorem k0_off14_inb : ∀ (v175 : BitVec 32) (k0_hw14 : k0_chk14 v175), ∀ a, (k0_off14 v175) a + S1x1x128.size a ≤ S1x4096x128.size a := fun v175 k0_hw14 => k0_hw14

def k0_off15 (v188 : BitVec 32) : Fin 3 → Nat :=
  let c0_155 : Index := 0#32
  let v191 : Index := Scalar.indexCast v188
  let c0_156 : Index := 0#32
  ![0, v191.toNat, 0]

def k0_chk15 (v188 : BitVec 32) : Prop :=
  (∀ a, (k0_off15 v188) a + S1x1x128.size a ≤ S1x4096x128.size a)
theorem k0_off15_inb : ∀ (v188 : BitVec 32) (k0_hw15 : k0_chk15 v188), ∀ a, (k0_off15 v188) a + S1x1x128.size a ≤ S1x4096x128.size a := fun v188 k0_hw15 => k0_hw15

def k0_off16 (v201 : BitVec 32) : Fin 3 → Nat :=
  let c0_165 : Index := 0#32
  let v204 : Index := Scalar.indexCast v201
  let c0_166 : Index := 0#32
  ![0, v204.toNat, 0]

def k0_chk16 (v201 : BitVec 32) : Prop :=
  (∀ a, (k0_off16 v201) a + S1x1x128.size a ≤ S1x4096x128.size a)
theorem k0_off16_inb : ∀ (v201 : BitVec 32) (k0_hw16 : k0_chk16 v201), ∀ a, (k0_off16 v201) a + S1x1x128.size a ≤ S1x4096x128.size a := fun v201 k0_hw16 => k0_hw16

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16 : Shape := ⟨1, ![16]⟩
abbrev S8x8x16x128 : Shape := ⟨4, ![8, 8, 16, 128]⟩
abbrev S8x8x4096x128 : Shape := ⟨4, ![8, 8, 4096, 128]⟩
abbrev S_ : Shape := ⟨0, ![]⟩
abbrev S16x1 : Shape := ⟨2, ![16, 1]⟩

abbrev nBuf : Space → Nat
  | .hbm => 23
  | .vmem => 0
  | .smem => 0
  | _ => 0

abbrev bufTy : (tb : Table) → Fin (tcTables nBuf tb) → BufTy
  | .hbm, ⟨0, _⟩ => ⟨S16, .i32⟩
  | .hbm, ⟨1, _⟩ => ⟨S8x8x16x128, .f32⟩
  | .hbm, ⟨2, _⟩ => ⟨S8x8x16x128, .f32⟩
  | .hbm, ⟨3, _⟩ => ⟨S8x8x4096x128, .f32⟩
  | .hbm, ⟨4, _⟩ => ⟨S8x8x4096x128, .f32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S8x8x4096x128, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S8x8x4096x128, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Bound.lean ====
/- The precondition of the claims, read at one position: each of the sixteen words is below 4096 as a natural number. -/
module

public import proofs.«01_k».proof.Defs
public import proofs.«01_k».proof.Proof.Gen.Pre_in_cache
public import Idealize.ShloMosaic.Lib.ReduceAll
public import Idealize.ShloMosaic.Lib.WordCmp

@[expose] public section

namespace Cert.Rows

open Idealize.ShloMosaic

/-- Where `in_cache` holds of the arguments, every position is at least 0 and below 4096. -/
theorem bound_of_pre {F : FTy → Type} [FloatOps F] (x0 : IVec Cert.Pre_in_cache.S16 32)
    (x1 x2 : FVec F Cert.Pre_in_cache.S8x8x16x128 .f32) (x3 x4 : FVec F Cert.Pre_in_cache.S8x8x4096x128 .f32)
    (h : Cert.Pre_in_cache.fn x0 x1 x2 x3 x4 = fun _ => 1#1) (i : Cert.Pre_in_cache.S16.Idx) : (x0 i).toNat < 4096 := by
  have e := congrFun h (fun a => a.elim0)
  dsimp only [Cert.Pre_in_cache.fn] at e
  haveI : Subsingleton Cert.Pre_in_cache.S_.Idx := ⟨fun a b => funext fun k => k.elim0⟩
  have e1 : IntOp.andi (IntOp.cmpi .sge (x0 i) 0#32) (IntOp.cmpi .slt (x0 i) (BitVec.ofNat 32 4096)) = 1#1 :=
    Host.reduce_andi_all _ _ _ _ _ e i
  rw [WordCmp.andi_sge_zero_slt_ofNat (by decide)] at e1
  by_contra hn
  rw [decide_eq_false hn] at e1
  exact absurd e1 (by decide)

/-- A row below 4096 lies inside a block of 4096 rows. -/
theorem row_inside (n : ℕ) (h : n < 4096) :
    ∀ a, (![0, n, 0] : Fin 3 → ℕ) a + (![1, 1, 128] : Fin 3 → ℕ) a ≤ (![1, 4096, 128] : Fin 3 → ℕ) a := by
  intro a
  match a with
  | ⟨0, _⟩ => exact Nat.le_refl 1
  | ⟨1, _⟩ => exact h
  | ⟨2, _⟩ => exact Nat.le_refl 128

end Cert.Rows
-- ==== Proof.HypsKernelIdeal.lean ====
/- The side conditions that the body of `KernelIdeal` assumes of the sixteen positions it loads — that the row each names lies
   inside the cache block — follow from every position being below 4096. -/
module

public import proofs.«01_k».proof.Defs
public import proofs.«01_k».proof.Proof.Gen.KernelIdeal.Frame
public import proofs.«01_k».proof.Proof.Bound

@[expose] public section

namespace Cert.Rows.KernelIdeal

open Cert.KernelIdeal Cert.KernelIdeal.Gen
open Idealize.ShloMosaic Idealize.ShloMosaic.TcCoe

variable {F : FTy → Type} [FloatOps F]

/-- Every position is below 4096, on every device. -/
def Bound (m : (ℓ : Loc nD τ sig) → Buf (Elt F) ℓ) : Prop :=
  ∀ (c : Dev nD) (i : S16.Idx), BitVec.toNat (w := 32) (m ((c : Thread nD τ).loc main_arg0) i) < 4096

/-- A position's block at any point is the whole array of positions, so each word of it is below 4096. -/
theorem word_lt (m : (ℓ : Loc nD τ sig) → Buf (Elt F) ℓ) (h : Bound m) (c : Dev nD) (t : Fin cfg0.N) (r : LoadRect S16)
    (i : r.shape.Idx) :
    BitVec.toNat (w := 32) ((ms0_0 t).view.readAt (Elt F) r ((hs0_0 t).unread (iblk m c 0 t)) i) < 4096 := by
  have rd : ∀ i, BitVec.toNat (w := 32) (iblk m c 0 t i) < 4096 := fun i => by
    unfold iblk; rw [View.read_apply, cast_eq]; exact h c _
  rw [View.readAt_apply]
  exact (congrArg (BitVec.toNat (w := 32)) (congrFun ((hs0_0 t).read_unread (iblk m c 0 t)) _)).trans_lt (rd _)

/-- The side conditions the body assumes hold where every position is below 4096. -/
theorem hyps_of_bound (m : (ℓ : Loc nD τ sig) → Buf (Elt F) ℓ) (h : Bound m) : Hyps m := by
  refine Hyps.of ?_ ?_ ?_ ?_ ?_ ?_ ?_ ?_ ?_ ?_ ?_ ?_ ?_ ?_ ?_ ?_ <;>
    exact fun c t => row_inside _ (word_lt m h c t _ _)

end Cert.Rows.KernelIdeal
-- ==== Proof.LastWrite.lean ====
/- Sixteen rows are written one after another into the rows of a cache, each at the row its position names; a later row
   replaces an earlier one at the same position. This module states what one element of the cache holds afterwards, and
   that a longer run of writes, only some of which touch the element, leaves the same value. Nothing here names a program. -/
module

public import Mathlib.Data.List.FinRange
public import Mathlib.Data.List.Sort
public import Mathlib.Data.Fintype.Basic
public import Mathlib.Order.Fin.Basic

@[expose] public section

namespace Cert.Rows

variable {α : Type}

/-- What an element of row `r` holds once the sixteen writes are done in order: write `s` puts `v s` there when its
    position is `r`, and an element no write touches keeps `old`. -/
def lastRow (pos : Fin 16 → ℕ) (v : Fin 16 → α) (old : α) (r : ℕ) : α :=
  (List.finRange 16).foldl (fun a s => if pos s = r then v s else a) old

/-- The indices of a longer run at which `p` holds, when each is `e` of an index of a shorter run and `e` keeps the order,
    are the shorter run's indices taken through `e`, in the same order. -/
theorem filter_through {n N : ℕ} (e : Fin n → Fin N) (he : StrictMono e) (p : Fin N → Bool)
    (hp : ∀ k, p k = true → ∃ s, e s = k) :
    (List.finRange N).filter p = ((List.finRange n).filter fun s => p (e s)).map e := by
  have h1 : ((List.finRange N).filter p).Pairwise (· < ·) := (List.pairwise_lt_finRange N).filter _
  have h2 : (((List.finRange n).filter fun s => p (e s)).map e).Pairwise (· < ·) :=
    List.pairwise_map.2 (((List.pairwise_lt_finRange n).filter _).imp fun h => he h)
  refine List.Perm.eq_of_pairwise (le := (· < ·)) (fun a b _ _ h h' => absurd h (lt_asymm h')) h1 h2 ?_
  refine (List.perm_ext_iff_of_nodup (h1.imp fun h => ne_of_lt h) (h2.imp fun h => ne_of_lt h)).2 fun k => ?_
  simp only [List.mem_filter, List.mem_finRange, true_and, List.mem_map]
  constructor
  · intro h
    obtain ⟨s, rfl⟩ := hp k h
    exact ⟨s, h, rfl⟩
  · rintro ⟨s, h, rfl⟩
    exact h

/-- A run of `N` conditional writes to one element is the run of the `n` writes that can touch it, in the same order. -/
theorem foldl_through {n N : ℕ} (e : Fin n → Fin N) (he : StrictMono e) (p : Fin N → Prop) [DecidablePred p]
    (hp : ∀ k, p k → ∃ s, e s = k) (f : Fin N → α) (a : α) :
    (List.finRange N).foldl (fun a k => if p k then f k else a) a
      = (List.finRange n).foldl (fun a s => if p (e s) then f (e s) else a) a := by
  have h := filter_through e he (fun k => decide (p k)) (fun k hk => hp k (of_decide_eq_true hk))
  have h1 := List.foldl_filter (l := List.finRange N) (p := fun k => decide (p k)) (f := fun _ k => f k) (init := a)
  have h2 := List.foldl_filter (l := List.finRange n) (p := fun s => decide (p (e s))) (f := fun _ s => f (e s)) (init := a)
  rw [h, List.foldl_map] at h1
  simp only [decide_eq_true_eq] at h1 h2
  exact h1.symm.trans h2

end Cert.Rows
-- ==== Proof.Block.lean ====
/- What one grid point leaves in the two result blocks: the cache block is copied whole, and then sixteen rows are stored
   into it one after another, row `s` of the new values at the row that position `s` names. Read at one element that is
   the last of the sixteen rows positioned there, or the cache block's own element. -/
module

public import proofs.«01_k».proof.Proof.HypsKernelIdeal
public import proofs.«01_k».proof.Proof.LastWrite
public import Idealize.ShloMosaic.Lib.Pipeline.Value
public import Idealize.ShloMosaic.Lib.ValueIdx
public import Idealize.ShloMosaic.Lib.Tactic

@[expose] public section

noncomputable section

namespace Cert.Rows

open Cert.KernelIdeal Cert.KernelIdeal.Gen
open Idealize.ShloMosaic Idealize.ShloMosaic.TcCoe Idealize.ShloMosaic.ValueIdx

variable {F : FTy → Type} [FloatOps F]

/-! ## Sixteen row stores over one whole store -/

/-- The store of row `w` at row `p` of a cache block. -/
abbrev rowPiece (p : ℕ) (hp : p < 4096) (w : S1x1x128.Idx → Elt F .f32) : View.Piece (Elt F) S1x4096x128 .f32 :=
  ⟨Rect.unit (s := S1x4096x128) ![0, p, 0] S1x1x128.size (row_inside p hp), w⟩

/-- After a store of row `w` at row `p`, row `p` is `w` and every other row is as it was. -/
theorem canon_row (p : ℕ) (hp : p < 4096) (w : S1x1x128.Idx → Elt F .f32) (L : List (View.Piece (Elt F) S1x4096x128 .f32))
    (r : Fin 4096) (l : Fin 128) :
    View.canon (rowPiece p hp w :: L) (ix3 (0 : Fin 1) r l)
      = if p = r.val then w (ix3 (0 : Fin 1) (0 : Fin 1) l) else View.canon L (ix3 (0 : Fin 1) r l) := by
  by_cases h : p = r.val
  · subst h
    rw [if_pos rfl]
    have e : (Rect.unit (s := S1x4096x128) ![0, r.val, 0] S1x1x128.size (row_inside r.val hp)).emb
        (ix3 (0 : Fin 1) (0 : Fin 1) l) = ix3 (0 : Fin 1) r l := by
      funext a
      apply Fin.ext
      match a with
      | ⟨0, _⟩ => rfl
      | ⟨1, _⟩ => show r.val + 1 * 0 = r.val; omega
      | ⟨2, _⟩ => show 0 + 1 * l.val = l.val; omega
    exact (congrArg (View.canon _) e.symm).trans (View.canon_cons_emb _ _ _ _)
  · rw [if_neg h]
    refine View.canon_cons_of_not_mem _ _ fun hm => h ?_
    have hr := (Rect.mem_set_unit (s := S1x4096x128) (size := S1x1x128.size) (inb := row_inside p hp)).mp hm 1
    change p ≤ r.val ∧ r.val < p + 1 at hr
    omega

/-- After row stores in the order of `l`, an element is what a run of conditional writes in that order leaves. -/
theorem canon_foldl (pos : Fin 16 → ℕ) (hp : ∀ s, pos s < 4096) (w : Fin 16 → S1x1x128.Idx → Elt F .f32) (r : Fin 4096)
    (l : Fin 128) (ss : List (Fin 16)) (L : List (View.Piece (Elt F) S1x4096x128 .f32)) :
    View.canon (ss.foldl (fun L s => rowPiece (pos s) (hp s) (w s) :: L) L) (ix3 (0 : Fin 1) r l)
      = ss.foldl (fun a s => if pos s = r.val then w s (ix3 (0 : Fin 1) (0 : Fin 1) l) else a)
          (View.canon L (ix3 (0 : Fin 1) r l)) := by
  induction ss generalizing L with
  | nil => rfl
  | cons s ss ih => rw [List.foldl_cons, ih, canon_row, List.foldl_cons]

/-- Sixteen row stores over one store of the whole block `P`. -/
theorem canon_rows (pos : Fin 16 → ℕ) (hp : ∀ s, pos s < 4096) (w : Fin 16 → S1x1x128.Idx → Elt F .f32)
    (P : S1x4096x128.Idx → Elt F .f32) (r : Fin 4096) (l : Fin 128) :
    View.canon ((List.finRange 16).foldl (fun L s => rowPiece (pos s) (hp s) (w s) :: L)
        [⟨Rect.unit (s := S1x4096x128) ![0, 0, 0] S1x4096x128.size inb_S1x4096x128_S1x4096x128_0_0_0, P⟩])
        (ix3 (0 : Fin 1) r l)
      = lastRow pos (fun s => w s (ix3 (0 : Fin 1) (0 : Fin 1) l)) (P (ix3 (0 : Fin 1) r l)) r.val := by
  rw [canon_foldl, View.canon_unit_zero (S := S1x4096x128) (by funext a; fin_cases a <;> rfl)]
  rfl

/-! ## The words and rows that the body loads -/

/-- Word `s` of the positions, and row `s` of the new values, lie inside their blocks. -/
theorem word_inside (s : Fin 16) : ∀ a, (![s.val] : Fin 1 → ℕ) a + S1.size a ≤ S16.size a := fun a =>
  match a with
  | ⟨0, _⟩ => s.isLt
/-- Row `s` lies inside a block of sixteen rows. -/
theorem val_inside (s : Fin 16) : ∀ a, (![0, s.val, 0] : Fin 3 → ℕ) a + S1x1x128.size a ≤ S1x16x128.size a := fun a =>
  match a with
  | ⟨0, _⟩ => Nat.le_refl 1
  | ⟨1, _⟩ => s.isLt
  | ⟨2, _⟩ => Nat.le_refl 128

variable (m : (ℓ : Loc nD τ sig) → Buf (Elt F) ℓ)

/-- Word `s` of the positions as the body loads it at point `t`. -/
abbrev word (c : Dev nD) (t : Fin cfg0.N) (s : Fin 16) : BitVec 32 :=
  (ms0_0 t).view.readAt (Elt F) (Rect.unit (s := S16) ![s.val] S1.size (word_inside s)).toLoadRect
    ((hs0_0 t).unread (iblk m c 0 t)) (Shape.Idx.first (numel1_S1.symm ▸ Nat.one_pos))

/-- It is word `s` of the positions' block. -/
theorem word_eq (c : Dev nD) (t : Fin cfg0.N) (s : Fin 16) :
    (word m c t s).toNat = BitVec.toNat (w := 32) (iblk m c 0 t (ix1 s)) := by
  unfold word
  rw [View.readAt_apply]
  refine congrArg (BitVec.toNat (w := 32)) ((congrFun ((hs0_0 t).read_unread (iblk m c 0 t)) _).trans
    (congrArg (iblk m c 0 t) ?_))
  funext a
  apply Fin.ext
  match a with
  | ⟨0, _⟩ =>
    have h := ((Shape.Idx.first (s := S1) (numel1_S1.symm ▸ Nat.one_pos)) 0).isLt
    show s.val + 1 * ((Shape.Idx.first (s := S1) (numel1_S1.symm ▸ Nat.one_pos)) 0).val = s.val
    change _ < 1 at h
    omega

/-- Row `s` of a block of new values, as it is stored: loaded, its unit axis dropped and put back. -/
abbrev valRow (x : Vec F S1x16x128 .f32) (s : Fin 16) : S1x1x128.Idx → Elt F .f32 :=
  shapeCast S1x1x128 (shapeCast S1x128 (View.ld x (Rect.unit (s := S1x16x128) ![0, s.val, 0] S1x1x128.size (val_inside s)))
    shapeCasts_S1x1x128_S1x128) shapeCasts_S1x128_S1x1x128

/-- At lane `l` it is the block's element. -/
theorem valRow_apply (x : Vec F S1x16x128 .f32) (s : Fin 16) (l : Fin 128) :
    valRow x s (ix3 (0 : Fin 1) (0 : Fin 1) l) = x (ix3 (0 : Fin 1) s l) := by
  unfold valRow
  rw [shapeCast_shapeCast]
  refine congrArg x (funext fun a => Fin.ext ?_)
  match a with
  | ⟨0, _⟩ => rfl
  | ⟨1, _⟩ => show s.val + 1 * 0 = s.val; omega
  | ⟨2, _⟩ => show 0 + 1 * l.val = l.val; omega

/-- A cache block, loaded and stored whole, is itself. -/
theorem whole_apply (x : Vec F S1x4096x128 .f32) :
    shapeCast S1x4096x128 (View.ld x (Rect.unit (s := S1x4096x128) ![0, 0, 0] S1x4096x128.size
      inb_S1x4096x128_S1x4096x128_0_0_0)) shapeCasts_S1x4096x128_S1x4096x128 = x :=
  (shapeCast_self _ _).trans (View.ld_unit_zero (S := S1x4096x128) (by funext a; fin_cases a <;> rfl) _ _)

/-! ## The two result blocks -/

/-- What a result block holds at row `r`, lane `l`: `x` the cache block, `v` the new values' block, `q` the positions. -/
abbrev blockVal (q : Vec F S16 .i32) (x : Vec F S1x4096x128 .f32) (v : Vec F S1x16x128 .f32) (r : Fin 4096) (l : Fin 128) :
    Elt F .f32 :=
  lastRow (fun s => BitVec.toNat (w := 32) (q (ix1 s))) (fun s => v (ix3 (0 : Fin 1) s l)) (x (ix3 (0 : Fin 1) r l)) r.val

/-- The canonical contents of the body's stores, over the loads of a cache block and of a values block. -/
theorem stored_eq (h : KernelIdeal.Bound m) (c : Dev nD) (t : Fin cfg0.N) (x : Vec F S1x4096x128 .f32)
    (v : Vec F S1x16x128 .f32) (r : Fin 4096) (l : Fin 128) :
    View.canon ((List.finRange 16).foldl
        (fun L s => rowPiece (word m c t s).toNat (KernelIdeal.word_lt m h c t _ _) (valRow v s) :: L)
        [⟨Rect.unit (s := S1x4096x128) ![0, 0, 0] S1x4096x128.size inb_S1x4096x128_S1x4096x128_0_0_0,
          shapeCast S1x4096x128 (View.ld x (Rect.unit (s := S1x4096x128) ![0, 0, 0] S1x4096x128.size
            inb_S1x4096x128_S1x4096x128_0_0_0)) shapeCasts_S1x4096x128_S1x4096x128⟩]) (ix3 (0 : Fin 1) r l)
      = blockVal (iblk m c 0 t) x v r l := by
  rw [canon_rows (fun s => (word m c t s).toNat), whole_apply]
  simp only [word_eq]
  exact congrArg (fun f => lastRow _ f _ _) (funext fun s => valRow_apply v s l)

/-- The first result's block after point `t`. -/
theorem out5 (h : KernelIdeal.Bound m) (hH : Hyps m) (c : Dev nD) (t : Fin cfg0.N) (r : Fin 4096) (l : Fin 128) :
    (outsAt0 m hH c t).1 (ix3 (0 : Fin 1) r l) = blockVal (iblk m c 0 t) (iblk m c 1 t) (iblk m c 3 t) r l := by
  unfold outsAt0 out0_A_5
  dsimp only
  rw [View.read_writes_eq_canon _ _ _ (cover0_A_5 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_1 t).read_unread, (hs0_3 t).read_unread]
  exact stored_eq m h c t (iblk m c 1 t) (iblk m c 3 t) r l

/-- The second result's block after point `t`. -/
theorem out6 (h : KernelIdeal.Bound m) (hH : Hyps m) (c : Dev nD) (t : Fin cfg0.N) (r : Fin 4096) (l : Fin 128) :
    (outsAt0 m hH c t).2 (ix3 (0 : Fin 1) r l) = blockVal (iblk m c 0 t) (iblk m c 2 t) (iblk m c 4 t) r l := by
  unfold outsAt0 out0_A_6
  dsimp only
  rw [View.read_writes_eq_canon _ _ _ (cover0_A_6 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_2 t).read_unread, (hs0_4 t).read_unread]
  exact stored_eq m h c t (iblk m c 2 t) (iblk m c 4 t) r l

end Cert.Rows
-- ==== Proof.Array.lean ====
/- The two result arrays of the kernel's one region: the 64 grid points write 64 disjoint blocks that cover each array, and
   each block is the cache plane with the sixteen rows stored into it. -/
module

public import proofs.«01_k».proof.Proof.Block
public import Idealize.ShloMosaic.Lib.Pipeline.ValueKit

@[expose] public section

noncomputable section

namespace Cert.Rows

open Cert.KernelIdeal Cert.KernelIdeal.Gen
open Idealize.ShloMosaic hiding ix1 ix3 ix4 eq_ix3 eq_ix4
open Idealize.ShloMosaic.TcCoe Idealize.ShloMosaic.ValueIdx

variable {F : FTy → Type} [FloatOps F]

variable (m : (ℓ : Loc nD τ sig) → Buf (Elt F) ℓ)

/-! ## The planes a grid point works on -/

/-- The positions' block is the whole array at every point. -/
theorem index_0 : ∀ t : Fin cfg0.N, win0_0.index t = ![0] := (by decide +kernel : ∀ t : Fin grid0.N, _)

/-- The first cache's block at point `t` is plane `t`. -/
theorem index_1 : ∀ t : Fin cfg0.N, win0_1.index t = ![t.val, 0, 0] := (by decide +kernel : ∀ t : Fin grid0.N, _)

/-- The second cache's block at point `t` is plane `t`. -/
theorem index_2 : ∀ t : Fin cfg0.N, win0_2.index t = ![t.val, 0, 0] := (by decide +kernel : ∀ t : Fin grid0.N, _)

/-- The first new rows' block at point `t` is plane `t`. -/
theorem index_3 : ∀ t : Fin cfg0.N, win0_3.index t = ![t.val, 0, 0] := (by decide +kernel : ∀ t : Fin grid0.N, _)

/-- The second new rows' block at point `t` is plane `t`. -/
theorem index_4 : ∀ t : Fin cfg0.N, win0_4.index t = ![t.val, 0, 0] := (by decide +kernel : ∀ t : Fin grid0.N, _)

/-- The first result's block at point `t` is plane `t`. -/
theorem index_5 : ∀ t : Fin cfg0.N, win0_5.index t = ![t.val, 0, 0] := (by decide +kernel : ∀ t : Fin grid0.N, _)

/-- The second result's block at point `t` is plane `t`. -/
theorem index_6 : ∀ t : Fin cfg0.N, win0_6.index t = ![t.val, 0, 0] := (by decide +kernel : ∀ t : Fin grid0.N, _)

/-- A grid point as the number of a plane. -/
abbrev plane (t : Fin cfg0.N) : Fin 64 := ⟨t.val, t.isLt⟩

/-- The positions' block read at an element. -/
theorem iblk_0 (c : Dev nD) (t : Fin cfg0.N) (s : Fin 16) :
    iblk m c 0 t (ix1 s) = m ((c : Thread nD τ).loc main_arg0) (ix1 s) := by
  blk_ext [iblk, V_main_arg0, index_0 t]

/-- The first cache's block read at an element: the array's element in plane `t`. -/
theorem iblk_1 (c : Dev nD) (t : Fin cfg0.N) (r : Fin 4096) (l : Fin 128) :
    iblk m c 1 t (ix3 (0 : Fin 1) r l) = V m c main_v0 (ix3 (plane t) r l) := by
  blk_ext [iblk, index_1 t]

/-- The second cache's block read at an element: the array's element in plane `t`. -/
theorem iblk_2 (c : Dev nD) (t : Fin cfg0.N) (r : Fin 4096) (l : Fin 128) :
    iblk m c 2 t (ix3 (0 : Fin 1) r l) = V m c main_v1 (ix3 (plane t) r l) := by
  blk_ext [iblk, index_2 t]

/-- The first new rows' block read at an element: the array's element in plane `t`. -/
theorem iblk_3 (c : Dev nD) (t : Fin cfg0.N) (s : Fin 16) (l : Fin 128) :
    iblk m c 3 t (ix3 (0 : Fin 1) s l) = V m c main_v2 (ix3 (plane t) s l) := by
  blk_ext [iblk, index_3 t]

/-- The second new rows' block read at an element: the array's element in plane `t`. -/
theorem iblk_4 (c : Dev nD) (t : Fin cfg0.N) (s : Fin 16) (l : Fin 128) :
    iblk m c 4 t (ix3 (0 : Fin 1) s l) = V m c main_v3 (ix3 (plane t) s l) := by
  blk_ext [iblk, index_4 t]

/-! ## The two arrays -/

/-- Every plane of `x` with the sixteen rows of that plane of `v` stored at the positions `q`, in order. -/
def planes (q : S16.Idx → Elt F .i32) (x : S64x4096x128.Idx → Elt F .f32) (v : S64x16x128.Idx → Elt F .f32) :
    S64x4096x128.Idx → Elt F .f32 := fun y =>
  lastRow (fun s => BitVec.toNat (w := 32) (q (ix1 s))) (fun s => v (ix3 (y 0) s (y 2))) (x y) (y 1).val

/-- The index in the whole array of an element of the first result's block at point `t`. -/
theorem emb_5 (t : Fin cfg0.N) (r : Fin 4096) (l : Fin 128) :
    (win0_5.blk t).view.emb (ix3 (0 : Fin 1) r l) = ix3 (plane t) r l := by
  blk_ext [index_5 t]

/-- The first result's array after the region. -/
theorem arr_5 (h : KernelIdeal.Bound m) (hH : Hyps m) (c : Dev nD) :
    (dats m hH 0 c).arrAt 5 cfg0.N
      = planes (m ((c : Thread nD τ).loc main_arg0)) (V m c main_v0) (V m c main_v2) := by
  refine (dats m hH 0 c).arrAt_eq_of_covers 5 _ (by decide +kernel) fun t hf y => ?_
  blk_simp
  rw [after0_5]
  obtain ⟨r, l, rfl⟩ : ∃ (r : Fin 4096) (l : Fin 128), y = ix3 (0 : Fin 1) r l :=
    ⟨y 1, y 2, (eq_ix3 (n0 := 1) (n1 := 4096) (n2 := 128) y).trans
      (congrArg (fun a => ix3 a (y 1) (y 2)) (Subsingleton.elim (α := Fin 1) _ _))⟩
  refine (out5 m h hH c t r l).trans (Eq.trans ?_ (congrArg _ (emb_5 t r l)).symm)
  unfold blockVal planes
  simp only [iblk_0, iblk_1, iblk_3]

/-- The index in the whole array of an element of the second result's block at point `t`. -/
theorem emb_6 (t : Fin cfg0.N) (r : Fin 4096) (l : Fin 128) :
    (win0_6.blk t).view.emb (ix3 (0 : Fin 1) r l) = ix3 (plane t) r l := by
  blk_ext [index_6 t]

/-- The second result's array after the region. -/
theorem arr_6 (h : KernelIdeal.Bound m) (hH : Hyps m) (c : Dev nD) :
    (dats m hH 0 c).arrAt 6 cfg0.N
      = planes (m ((c : Thread nD τ).loc main_arg0)) (V m c main_v1) (V m c main_v3) := by
  refine (dats m hH 0 c).arrAt_eq_of_covers 6 _ (by decide +kernel) fun t hf y => ?_
  blk_simp
  rw [after0_6]
  obtain ⟨r, l, rfl⟩ : ∃ (r : Fin 4096) (l : Fin 128), y = ix3 (0 : Fin 1) r l :=
    ⟨y 1, y 2, (eq_ix3 (n0 := 1) (n1 := 4096) (n2 := 128) y).trans
      (congrArg (fun a => ix3 a (y 1) (y 2)) (Subsingleton.elim (α := Fin 1) _ _))⟩
  refine (out6 m h hH c t r l).trans (Eq.trans ?_ (congrArg _ (emb_6 t r l)).symm)
  unfold blockVal planes
  simp only [iblk_0, iblk_2, iblk_4]

/-! ## The host's reshapes -/

/-- The 64 planes as eight by eight: plane `8 b + h` is plane `(b, h)`. -/
theorem merge_apply {α : Type} {n : ℕ} (x : (⟨4, ![8, 8, n, 128]⟩ : Shape).Idx → α)
    (hc : (⟨4, ![8, 8, n, 128]⟩ : Shape).ShapeCasts ⟨3, ![64, n, 128]⟩) (b h : Fin 8) (r : Fin n) (l : Fin 128) (k : Fin 64)
    (hk : k.val = b.val * 8 + h.val) : shapeCast ⟨3, ![64, n, 128]⟩ x hc (ix3 k r l) = x (ix4 b h r l) := by
  refine shapeCast_apply _ _ _ _ ?_
  rw [Shape.rowMajor_val_three, Shape.rowMajor_val_four]
  show ((b.val * 8 + h.val) * n + r.val) * 128 + l.val = (k.val * n + r.val) * 128 + l.val
  rw [hk]

/-- The same correspondence, from 64 planes to eight by eight. -/
theorem split_apply {α : Type} {n : ℕ} (x : (⟨3, ![64, n, 128]⟩ : Shape).Idx → α)
    (hc : (⟨3, ![64, n, 128]⟩ : Shape).ShapeCasts ⟨4, ![8, 8, n, 128]⟩) (b h : Fin 8) (r : Fin n) (l : Fin 128) (k : Fin 64)
    (hk : k.val = b.val * 8 + h.val) : shapeCast ⟨4, ![8, 8, n, 128]⟩ x hc (ix4 b h r l) = x (ix3 k r l) := by
  refine shapeCast_apply _ _ _ _ ?_
  rw [Shape.rowMajor_val_three, Shape.rowMajor_val_four]
  show (k.val * n + r.val) * 128 + l.val = ((b.val * 8 + h.val) * n + r.val) * 128 + l.val
  rw [hk]

/-- The updated cache: row `q s` of every plane of `x` replaced by row `s` of that plane of `v`, for `s` from first to
    last, so that of several rows with one position the last stands. -/
def stored (q : S16.Idx → BitVec 32) (x : S8x8x4096x128.Idx → Elt F .f32) (v : S8x8x16x128.Idx → Elt F .f32) :
    S8x8x4096x128.Idx → Elt F .f32 := fun y =>
  lastRow (fun s => (q (ix1 s)).toNat) (fun s => v (ix4 (y 0) (y 1) s (y 3))) (x y) (y 2).val

/-- Storing the rows plane by plane over the 64 merged planes is storing them over the eight by eight. -/
theorem split_planes (q : S16.Idx → BitVec 32) (x : S8x8x4096x128.Idx → Elt F .f32) (v : S8x8x16x128.Idx → Elt F .f32) :
    shapeCast S8x8x4096x128 (planes (F := F) q (shapeCast S64x4096x128 x shapeCasts_S8x8x4096x128_S64x4096x128)
        (shapeCast S64x16x128 v shapeCasts_S8x8x16x128_S64x16x128)) shapeCasts_S64x4096x128_S8x8x4096x128
      = stored q x v := by
  funext y
  obtain ⟨b, h, r, l, rfl⟩ : ∃ (b h : Fin 8) (r : Fin 4096) (l : Fin 128), y = ix4 b h r l := ⟨y 0, y 1, y 2, y 3, eq_ix4 y⟩
  have hb := b.isLt
  have hh := h.isLt
  refine (split_apply (n := 4096) _ _ b h r l ⟨b.val * 8 + h.val, by omega⟩ rfl).trans ?_
  unfold planes stored
  refine congrArg₂ (fun f a => lastRow _ f a r.val) (funext fun s => ?_) ?_
  · exact merge_apply (n := 16) v _ b h s l _ rfl
  · exact merge_apply (n := 4096) x _ b h r l _ rfl

/-! ## The run -/

/-- The region finds the first cache reshaped to 64 planes. -/
theorem V_v0 (c : Dev nD) : V m c main_v0
    = shapeCast S64x4096x128 (m ((c : Thread nD τ).loc main_arg3)) shapeCasts_S8x8x4096x128_S64x4096x128 := by
  unfold V V0
  simp only [hostOps0, List.flatten_cons, List.flatten_nil, List.append_nil]
  after_results
  rfl

/-- The region finds the second cache reshaped to 64 planes. -/
theorem V_v1 (c : Dev nD) : V m c main_v1
    = shapeCast S64x4096x128 (m ((c : Thread nD τ).loc main_arg4)) shapeCasts_S8x8x4096x128_S64x4096x128 := by
  unfold V V0
  simp only [hostOps0, List.flatten_cons, List.flatten_nil, List.append_nil]
  after_results
  rfl

/-- The region finds the first new rows reshaped to 64 planes. -/
theorem V_v2 (c : Dev nD) : V m c main_v2
    = shapeCast S64x16x128 (m ((c : Thread nD τ).loc main_arg1)) shapeCasts_S8x8x16x128_S64x16x128 := by
  unfold V V0
  simp only [hostOps0, List.flatten_cons, List.flatten_nil, List.append_nil]
  after_results
  rfl

/-- The region finds the second new rows reshaped to 64 planes. -/
theorem V_v3 (c : Dev nD) : V m c main_v3
    = shapeCast S64x16x128 (m ((c : Thread nD τ).loc main_arg2)) shapeCasts_S8x8x16x128_S64x16x128 := by
  unfold V V0
  simp only [hostOps0, List.flatten_cons, List.flatten_nil, List.append_nil]
  after_results
  rfl

/-- The seven windows' arrays are seven different buffers. -/
theorem arrs_distinct : Function.Injective (Pipeline.arrRef (cfgs 0).spec) := by decide

/-- What the host's last operations leave in the first result. -/
theorem tail_5 (h : KernelIdeal.Bound m) (hH : Hyps m) (c : Dev nD) :
    Pipeline.afterTail₀ cfgs (dats m hH) 0 (V0 m) [hostOps1] c main_v5
      = stored (m ((c : Thread nD τ).loc main_arg0)) (m ((c : Thread nD τ).loc main_arg3)) (m ((c : Thread nD τ).loc main_arg1)) := by
  unfold Pipeline.afterTail₀
  simp only [hostOps1, List.flatten_cons, List.flatten_nil, List.append_nil]
  after_results
  have e := (Pipeline.withArrays_arr (τ := τ) (cfgs 0).spec arrs_distinct c (V0 m c)
    (fun w => (dats m hH 0 c).arrAt w (cfgs 0).N) (5 : Fin 7)).trans (arr_5 m h hH c)
  rw [V_v0, V_v2] at e
  exact (congrArg (fun z => shapeCast S8x8x4096x128 z shapeCasts_S64x4096x128_S8x8x4096x128) e).trans (split_planes _ _ _)

/-- What the host's last operations leave in the second result. -/
theorem tail_6 (h : KernelIdeal.Bound m) (hH : Hyps m) (c : Dev nD) :
    Pipeline.afterTail₀ cfgs (dats m hH) 0 (V0 m) [hostOps1] c main_v6
      = stored (m ((c : Thread nD τ).loc main_arg0)) (m ((c : Thread nD τ).loc main_arg4)) (m ((c : Thread nD τ).loc main_arg2)) := by
  unfold Pipeline.afterTail₀
  simp only [hostOps1, List.flatten_cons, List.flatten_nil, List.append_nil]
  after_results
  have e := (Pipeline.withArrays_arr (τ := τ) (cfgs 0).spec arrs_distinct c (V0 m c)
    (fun w => (dats m hH 0 c).arrAt w (cfgs 0).N) (6 : Fin 7)).trans (arr_6 m h hH c)
  rw [V_v1, V_v3] at e
  exact (congrArg (fun z => shapeCast S8x8x4096x128 z shapeCasts_S64x4096x128_S8x8x4096x128) e).trans (split_planes _ _ _)

/-- The kernel's run, where every position is below 4096: the first result is the cache argument 3 with the rows of argument 1
    stored at the positions, the second the cache argument 4 with the rows of argument 2, and the arguments are unchanged. -/
theorem run (h : KernelIdeal.Bound m) (ρ : Dev nD → PrngReg) :
    θ_run defs (onTc (τ := τ) (main (F := F))) ⟨m, fun _ => 0, ρ⟩ (fun r => ∀ c : Dev nD,
      r.2.mem ((c.tc : Thread nD τ).loc main_v5)
          = stored (m ((c.tc : Thread nD τ).loc main_arg0)) (m ((c.tc : Thread nD τ).loc main_arg3)) (m ((c.tc : Thread nD τ).loc main_arg1))
      ∧ r.2.mem ((c.tc : Thread nD τ).loc main_v6)
          = stored (m ((c.tc : Thread nD τ).loc main_arg0)) (m ((c.tc : Thread nD τ).loc main_arg4)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hH := KernelIdeal.hyps_of_bound m h
  refine (θ_run defs _ _).mono (fun r hr c => ⟨?_, ?_, hr.2 c⟩) (θ_run_and (run_main m ρ hH) (unchanged m ρ hH))
  · exact ((hr.1 c).2 main_v5 (Pipeline.mem_restRefs_of main_v5 (by decide) (by decide))).trans (tail_5 m h hH c)
  · exact ((hr.1 c).2 main_v6 (Pipeline.mem_restRefs_of main_v6 (by decide) (by decide))).trans (tail_6 m h hH c)

end Cert.Rows
-- ==== Proof.Scatter.lean ====
/- The reference's result read at one element: `cache.at[:, :, pos].set(vals)` leaves, at row `r` of a cache plane, the
   last of the sixteen rows whose position is `r`, and the cache's own row where no position is `r`. -/
module

public import proofs.«01_k».proof.Proof.Gen.ReferenceIdeal
public import proofs.«01_k».proof.Proof.LastWrite
public import Idealize.ShloMosaic.Lib.Routing.OpsPair
public import Idealize.ShloMosaic.Lib.ValueIdx

@[expose] public section

noncomputable section

namespace Cert.Rows

open Cert.ReferenceIdeal Cert.ReferenceIdeal.Gen
open Idealize.ShloMosaic Idealize.ShloMosaic.ValueIdx

/-- The reference's scatter: its updates are [8, 8, 16, 128], their third axis runs over the sixteen positions. -/
abbrev dims : ScatterDims S8x8x4096x128 S16x1 S8x8x16x128 := scatter_S8x8x4096x128_S16x1_S8x8x16x128_013_2_2_1

/-- Update `k` lands at `ι` exactly when its batch, head and lane are `ι`'s and its index word, read signed, is `ι`'s
    row. -/
theorem lands (idx : IVec S16x1 32) (k : S8x8x16x128.Idx) (ι : S8x8x4096x128.Idx) :
    dims.resultIdx? k idx = some ι
      ↔ (k 0).val = (ι 0).val ∧ (k 1).val = (ι 1).val ∧ (idx (ix2 (k 2) (0 : Fin 1))).toInt = ((ι 2).val : Int)
        ∧ (k 3).val = (ι 3).val := by
  have s0 : dims.start k idx 0 = 0 := rfl
  have s1 : dims.start k idx 1 = 0 := rfl
  have s3 : dims.start k idx 3 = 0 := rfl
  have hi : dims.siIdx k ⟨0, by decide⟩ = ix2 (k 2) (0 : Fin 1) := by
    funext b
    match b with
    | ⟨0, _⟩ => rfl
    | ⟨1, _⟩ => rfl
  have s2 : dims.start k idx 2 = (idx (ix2 (k 2) (0 : Fin 1))).toInt := congrArg (fun i => (idx i).toInt) hi
  have w0 : dims.window k 0 = (k 0).val := rfl
  have w1 : dims.window k 1 = (k 1).val := rfl
  have w2 : dims.window k 2 = 0 := rfl
  have w3 : dims.window k 3 = (k 3).val := rfl
  rw [Routing.resultIdx?_eq_some]
  constructor
  · intro h
    have h0 := h 0; have h1 := h 1; have h2 := h 2; have h3 := h 3
    rw [s0, w0] at h0; rw [s1, w1] at h1; rw [s2, w2] at h2; rw [s3, w3] at h3
    exact ⟨by omega, by omega, by omega, by omega⟩
  · rintro ⟨h0, h1, h2, h3⟩ a
    match a with
    | ⟨0, _⟩ => show dims.start k idx 0 + (dims.window k 0 : Int) = ((ι 0).val : Int); rw [s0, w0]; omega
    | ⟨1, _⟩ => show dims.start k idx 1 + (dims.window k 1 : Int) = ((ι 1).val : Int); rw [s1, w1]; omega
    | ⟨2, _⟩ => show dims.start k idx 2 + (dims.window k 2 : Int) = ((ι 2).val : Int); rw [s2, w2]; omega
    | ⟨3, _⟩ => show dims.start k idx 3 + (dims.window k 3 : Int) = ((ι 3).val : Int); rw [s3, w3]; omega

/-- The row-major place, among the updates, of position `s` of the plane (`b`, `h`) at lane `l`. -/
def place (b h : Fin 8) (l : Fin 128) (s : Fin 16) : Fin S8x8x16x128.numel := S8x8x16x128.rowMajor (ix4 b h s l)

/-- A later position comes at a later place. -/
theorem place_strictMono (b h : Fin 8) (l : Fin 128) : StrictMono (place b h l) := by
  intro s s' hs
  show (S8x8x16x128.rowMajor (ix4 b h s l)).val < (S8x8x16x128.rowMajor (ix4 b h s' l)).val
  rw [Shape.rowMajor_val_four, Shape.rowMajor_val_four]
  have hs' : s.val < s'.val := hs
  show ((b.val * 8 + h.val) * 16 + s.val) * 128 + l.val < ((b.val * 8 + h.val) * 16 + s'.val) * 128 + l.val
  omega

/-- The reference's scatter at an element: the last of the sixteen rows positioned there, or the cache's own element. -/
theorem scatter_apply {α : Type} (x0 : S8x8x4096x128.Idx → α) (idx : IVec S16x1 32) (upd : S8x8x16x128.Idx → α)
    (pos : Fin 16 → ℕ) (hpos : ∀ s, (idx (ix2 s (0 : Fin 1))).toInt = (pos s : Int))
    (b h : Fin 8) (r : Fin 4096) (l : Fin 128) :
    Host.scatter dims (fun _ b => b) x0 idx upd (ix4 b h r l)
      = lastRow pos (fun s => upd (ix4 b h s l)) (x0 (ix4 b h r l)) r.val := by
  rw [Routing.scatter_at, foldl_through (place b h l) (place_strictMono b h l)
    (fun n => dims.resultIdx? (S8x8x16x128.rowMajor.symm n) idx = some (ix4 b h r l)) ?_
    (fun n => upd (S8x8x16x128.rowMajor.symm n))]
  · unfold lastRow
    refine congrArg (fun f => List.foldl f _ _) (funext fun a => funext fun s => ?_)
    have e : S8x8x16x128.rowMajor.symm (place b h l s) = ix4 b h s l := Equiv.symm_apply_apply _ _
    simp only [e]
    have hl : dims.resultIdx? (ix4 b h s l) idx = some (ix4 b h r l) ↔ pos s = r.val := by
      rw [lands]
      have h2 : (idx (ix2 ((ix4 b h s l : S8x8x16x128.Idx) 2) (0 : Fin 1))).toInt = (pos s : Int) := hpos s
      rw [h2]
      exact ⟨fun q => Int.ofNat.inj q.2.2.1, fun q => ⟨rfl, rfl, congrArg Int.ofNat q, rfl⟩⟩
    by_cases q : pos s = r.val
    · rw [if_pos (hl.2 q), if_pos q]
    · rw [if_neg fun h' => q (hl.1 h'), if_neg q]
  · intro n hn
    obtain ⟨h0, h1, -, h3⟩ := (lands idx _ _).1 hn
    refine ⟨(S8x8x16x128.rowMajor.symm n) 2, ?_⟩
    refine (Equiv.eq_symm_apply _).1 ?_
    funext a
    match a with
    | ⟨0, _⟩ => exact Fin.ext h0.symm
    | ⟨1, _⟩ => exact Fin.ext h1.symm
    | ⟨2, _⟩ => rfl
    | ⟨3, _⟩ => exact Fin.ext h3.symm

end Cert.Rows

end
-- ==== Proof.Reference.lean ====
/- The reference's run: each result is its cache argument with the new rows stored at the positions. The reference first adds
   the cache's length to a position below zero; where every position is below 4096 there is none to change. -/
module

public import proofs.«01_k».proof.Proof.Array
public import proofs.«01_k».proof.Proof.Scatter
public import proofs.«01_k».proof.Proof.Gen.ReferenceIdeal.Run

@[expose] public section

noncomputable section

namespace Cert.Rows

open Cert.ReferenceIdeal Cert.ReferenceIdeal.Gen
open Idealize.ShloMosaic Idealize.ShloMosaic.TcCoe Idealize.SL.Sem

/-- The positions as the reference's scatter takes them: a word below zero has 4096 added to it, and each word is a row of its own. -/
abbrev wrapped (q : IVec S16 32) : IVec S16x1 32 :=
  broadcastInDim S16x1 ![0] bcast_S16_S16x1_0
    (select (cmpi .slt q (broadcastInDim S16 ![] bcast_S_S16 (constantI S_ 32 0#32)))
      (addi q (broadcastInDim S16 ![] bcast_S_S16 (constantI S_ 32 4096#32))) q)

/-- Of a position below 4096 the wrapped word, read signed, is the position. -/
theorem wrapped_apply (q : IVec S16 32) (hq : ∀ i, (q i).toNat < 4096) (s : Fin 16) :
    (wrapped q (ValueIdx.ix2 s (0 : Fin 1))).toInt = ((q (ValueIdx.ix1 s)).toNat : Int) := by
  have e : wrapped q (ValueIdx.ix2 s (0 : Fin 1)) = q (ValueIdx.ix1 s) := by
    have w := Routing.wrap_of_lt (q (ValueIdx.ix1 s)) (IntOp.addi (q (ValueIdx.ix1 s)) 4096#32)
      (lt_of_lt_of_le (hq _) (by decide))
    have hx : ∀ x : IVec S16 32, broadcastInDim S16x1 ![0] bcast_S16_S16x1_0 x (ValueIdx.ix2 s (0 : Fin 1)) = x (ValueIdx.ix1 s) :=
      fun x => congrArg x (funext fun a => by fin_cases a; rfl)
    exact (hx _).trans w
  rw [e, BitVec.toInt_eq_toNat_of_lt (by have := hq (ValueIdx.ix1 s); omega)]

/-- The reference's scatter is the updated cache. -/
theorem scatter_eq {F : FTy → Type} [FloatOps F] (q : IVec S16 32) (hq : ∀ i, (q i).toNat < 4096)
    (x : FVec F S8x8x4096x128 .f32) (v : FVec F S8x8x16x128 .f32) :
    Host.scatter dims (fun _ b => b) x (wrapped q) v = stored (F := F) q x v := by
  funext y
  obtain ⟨b, h, r, l, rfl⟩ : ∃ (b h : Fin 8) (r : Fin 4096) (l : Fin 128), y = ValueIdx.ix4 b h r l :=
    ⟨y 0, y 1, y 2, y 3, ValueIdx.eq_ix4 y⟩
  exact scatter_apply x (wrapped q) v _ (wrapped_apply q hq) b h r l

/-- The reference's run, where every position is below 4096: its two results are the two updated caches, and the arguments are
    unchanged. -/
theorem reference_run {F : FTy → Type} [FloatOps F] (m : (ℓ : Loc nD τ sig) → Buf (Elt F) ℓ) (ρ : Dev nD → PrngReg)
    (hq : ∀ (c : Dev nD) (i : S16.Idx), BitVec.toNat (w := 32) (m ((c.tc : Thread nD τ).loc main_arg0) i) < 4096) :
    θ_run defs (onTc (τ := τ) (main (F := F))) ⟨m, fun _ => 0, ρ⟩ (fun r => ∀ c : Dev nD,
      r.2.mem ((c.tc : Thread nD τ).loc main_v6)
          = stored (F := F) (m ((c.tc : Thread nD τ).loc main_arg0)) (m ((c.tc : Thread nD τ).loc main_arg3)) (m ((c.tc : Thread nD τ).loc main_arg1))
      ∧ r.2.mem ((c.tc : Thread nD τ).loc main_v13)
          = stored (F := F) (m ((c.tc : Thread nD τ).loc main_arg0)) (m ((c.tc : Thread nD τ).loc main_arg4)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (scatter_eq _ (hq c) _ _), (h c).2.1.trans (scatter_eq _ (hq c) _ _), (h c).2.2⟩)
    (Cert.ReferenceIdeal.Value.run m ρ)

end Cert.Rows
-- ==== Proof.lean ====
/- The proof of the certificate's claim. Each program runs and leaves its arguments and the semaphore counters as they were;
   the idealized kernel and the reference end with equal results, both the cache with the new rows stored at the positions.
   The precondition enters once, as the bound of every position below 4096. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_cache
public import proofs.«01_k».proof.Proof.Bound
public import proofs.«01_k».proof.Proof.HypsKernel
public import proofs.«01_k».proof.Proof.HypsKernelIdeal
public import proofs.«01_k».proof.Proof.Array
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs, its arguments end unchanged, and its counters end at zero. -/
theorem frame_kernel : Cert.quiescent_Kernel := fun m ρ h =>
  Cert.Kernel.Gen.frame m ρ (Cert.Rows.Kernel.hyps_of_bound m fun c => Cert.Rows.bound_of_pre _ _ _ _ _ (h c))

/-- The precondition bounds every position of the idealized kernel. -/
theorem bound_ideal (m : (ℓ : Loc Cert.KernelIdeal.nD Cert.KernelIdeal.τ Cert.KernelIdeal.sig) → Buf (Elt Ideal) ℓ)
    (h : Cert.Pre_KernelIdeal m) : Cert.Rows.KernelIdeal.Bound m := fun c => Cert.Rows.bound_of_pre _ _ _ _ _ (h c)

/-- The idealized kernel runs, its arguments end unchanged, and its counters end at zero. -/
theorem frame_ideal : Cert.quiescent_KernelIdeal := fun m ρ h =>
  Cert.KernelIdeal.Gen.frame m ρ (Cert.Rows.KernelIdeal.hyps_of_bound m (bound_ideal m h))

/-- The reference runs from every memory, its arguments end unchanged, and its counters end at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- From equal arguments that the precondition admits, the idealized kernel and the reference end with equal results. -/
theorem equal_results : Cert.algebraic_KernelIdeal_ReferenceIdeal := fun m g m' g' h ha => by
  have hb := bound_ideal m h
  refine ⟨_, _, Cert.Rows.run m hb g, (θ_run Cert.ReferenceIdeal.defs _ _).mono
    (fun r hr c => ⟨(hr c).1.trans ?first, (hr c).2.1.trans ?second, (hr c).2.2⟩)
    (Cert.Rows.reference_run m' g' fun c i => ?bound)⟩
  case first => rw [(ha c).1, (ha c).2.1, (ha c).2.2.2.1]
  case second => rw [(ha c).1, (ha c).2.2.1, (ha c).2.2.2.2]
  case bound => rw [(ha c).1]; exact hb c i

/-- Every claim of the certificate. -/
theorem claim : Cert.Claim := ⟨Cert.Kernel.Gen.facts, Cert.KernelIdeal.Gen.facts, Cert.ReferenceIdeal.Gen.facts, Cert.Pre_in_cache.Gen.facts,
  frame_kernel, frame_ideal, frame_reference, fun m ρ _ => frame_reference m ρ trivial, trivial, equal_results⟩

end Cert.Proof

end
